-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4112x128 : Shape := ⟨3, ![2, 4112, 128]⟩
abbrev S2x4096 : Shape := ⟨2, ![2, 4096]⟩
abbrev S4096x128 : Shape := ⟨2, ![4096, 128]⟩
abbrev S8192x8192 : Shape := ⟨2, ![8192, 8192]⟩
abbrev S32x4096 : Shape := ⟨2, ![32, 4096]⟩
abbrev S1x512x128 : Shape := ⟨3, ![1, 512, 128]⟩
abbrev S2x16x128 : Shape := ⟨3, ![2, 16, 128]⟩
abbrev S512x8192 : Shape := ⟨2, ![512, 8192]⟩
abbrev S512x128 : Shape := ⟨2, ![512, 128]⟩
abbrev S512x4096 : Shape := ⟨2, ![512, 4096]⟩
abbrev S32x128 : Shape := ⟨2, ![32, 128]⟩
abbrev S2x16x4096 : Shape := ⟨3, ![2, 16, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x4112x128, .f32⟩
  | .hbm, ⟨1, _⟩ => ⟨S2x4096, .f32⟩
  | .hbm, ⟨2, _⟩ => ⟨S2x4096, .i1⟩
  | .hbm, ⟨3, _⟩ => ⟨S4096x128, .f32⟩
  | .hbm, ⟨4, _⟩ => ⟨S4096x128, .f32⟩
  | .hbm, ⟨5, _⟩ => ⟨S8192x8192, .f32⟩
  | .hbm, ⟨6, _⟩ => ⟨S32x4096, .f32⟩
  | .hbm, ⟨7, _⟩ => ⟨S2x16x4096, .f32⟩
  | .local _ .vmem, ⟨0, _⟩ => ⟨S1x512x128, .f32⟩
  | .local _ .vmem, ⟨1, _⟩ => ⟨S1x512x128, .f32⟩
  | .local _ .vmem, ⟨2, _⟩ => ⟨S2x16x128, .f32⟩
  | .local _ .vmem, ⟨3, _⟩ => ⟨S4096x128, .f32⟩
  | .local _ .vmem, ⟨4, _⟩ => ⟨S4096x128, .f32⟩
  | .local _ .vmem, ⟨5, _⟩ => ⟨S512x8192, .f32⟩
  | .local _ .vmem, ⟨6, _⟩ => ⟨S512x8192, .f32⟩
  | .local _ .vmem, ⟨7, _⟩ => ⟨S32x4096, .f32⟩
  | _, _ => ⟨S2x4112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_10 : BitVec 32 := 0#32
  let v10 : BitVec 1 := Scalar.cmpi .ne v9 c0_i32_10
  v10

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c256_i32 : BitVec 32 := 256#32
  let c0_i32_0 : BitVec 32 := 0#32
  let c0_i32_1 : BitVec 32 := 0#32
  ![c0_i32.toNat, c256_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x4112x128 : Shape := ⟨3, ![2, 4112, 128]⟩
abbrev S2x4096 : Shape := ⟨2, ![2, 4096]⟩
abbrev S4096x128 : Shape := ⟨2, ![4096, 128]⟩
abbrev S2x4096x128 : Shape := ⟨3, ![2, 4096, 128]⟩
abbrev S2x16x128 : Shape := ⟨3, ![2, 16, 128]⟩
abbrev S128x4096 : Shape := ⟨2, ![128, 4096]⟩
abbrev S2x16x4096 : Shape := ⟨3, ![2, 16, 4096]⟩
abbrev S8192x128 : Shape := ⟨2, ![8192, 128]⟩
abbrev S128x8192 : Shape := ⟨2, ![128, 8192]⟩
abbrev S8192x8192 : Shape := ⟨2, ![8192, 8192]⟩

abbrev nBuf : Space → Nat
  | .hbm => 13
  | .vmem => 0
  | .smem => 0
  | _ => 0

abbrev bufTy : (tb : Table) → Fin (tcTables nBuf tb) → BufTy
  | .hbm, ⟨0, _⟩ => ⟨S2x4112x128, .f32⟩
  | .hbm, ⟨1, _⟩ => ⟨S2x4096, .f32⟩
  | .hbm, ⟨2, _⟩ => ⟨S2x4096, .i1⟩
  | .hbm, ⟨3, _⟩ => ⟨S4096x128, .f32⟩
  | .hbm, ⟨4, _⟩ => ⟨S4096x128, .f32⟩
  | .hbm, ⟨5, _⟩ => ⟨S2x4096x128, .f32⟩
  | .hbm, ⟨6, _⟩ => ⟨S2x16x128, .f32⟩
  | .hbm, ⟨7, _⟩ => ⟨S128x4096, .f32⟩
  | .hbm, ⟨8, _⟩ => ⟨S2x16x4096, .f32⟩
  | .hbm, ⟨9, _⟩ => ⟨S8192x128, .f32⟩
  | .hbm, ⟨10, _⟩ => ⟨S8192x128, .f32⟩
  | .hbm, ⟨11, _⟩ => ⟨S128x8192, .f32⟩
  | .hbm, ⟨12, _⟩ => ⟨S8192x8192, .f32⟩
  | _, _ => ⟨S2x4112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.BodyRun.lean ====
/- One run of the kernel's body on any whole staging buffers, with the contents of both outputs written out:
   the first output's buffer ends as the two products side by side, the second output's buffer as the product of
   the last rows, stored at the grid's first point only and left alone at every other one. -/
module

public import proofs.«01_k».proof.Proof.Gen.KernelIdeal.Frame
public import proofs.«01_k».proof.Proof.Gen.KernelIdeal.Skeleton
public import Idealize.ShloMosaic.Lib.Pipeline.Value

@[expose] public section

-- the rectangles tested here have long axes
set_option maxRecDepth 16384

noncomputable section

namespace Cert.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two stores into the first output's block, the later one first: the right half of the columns holds the
    rows' products with the negative memory, the left half those with the positive memory. -/
def simPieces (x : Vec F S1x512x128 .f32) (pos neg : Vec F S4096x128 .f32) : List (View.Piece (Elt F) S512x8192 .f32) :=
  [⟨Rect.unit (s := S512x8192) ![0, 4096] S512x4096.size inb_S512x8192_S512x4096_0_4096, k0_pay3 x neg⟩,
   ⟨Rect.unit (s := S512x8192) ![0, 0] S512x4096.size inb_S512x8192_S512x4096_0_0, k0_pay2 x pos⟩]

/-- The two stores cover the block. -/
theorem simPieces_cover (x : Vec F S1x512x128 .f32) (pos neg : Vec F S4096x128 .f32) (y : S512x8192.Idx) :
    ∃ p ∈ simPieces x pos neg, y ∈ p.1.set :=
  View.cover_of_tiledL (simPieces x pos neg) S512x4096.size (by sl_kernel_rfl) y

/-- What the two stores leave in the first output's block. -/
def simBlock (x : Vec F S1x512x128 .f32) (pos neg : Vec F S4096x128 .f32) : Vec F S512x8192 .f32 :=
  View.canon (simPieces x pos neg)

theorem zeros2 : (![0, 0] : Fin 2 → ℕ) = fun _ => 0 := by decide
theorem zeros3 : (![0, 0, 0] : Fin 3 → ℕ) = fun _ => 0 := by decide

/-- The single store into the second output's block covers it. -/
theorem tailPiece_cover (w : Vec F S32x4096 .f32) (y : S32x4096.Idx) :
    ∃ p ∈ ([⟨Rect.unit (s := S32x4096) ![0, 0] S32x4096.size inb_S32x4096_S32x4096_0_0, w⟩] : List (View.Piece (Elt F) S32x4096 .f32)), y ∈ p.1.set :=
  ⟨_, List.mem_singleton.mpr rfl, View.mem_set_unit_zero zeros2 inb_S32x4096_S32x4096_0_0 y⟩

/-- A load of a whole two-axis buffer reads what the buffer reads. -/
theorem load_whole2 {n0 n1 : ℕ} (arg : Memref sig .tc .vmem ⟨2, ![n0, n1]⟩ .f32) (f : arg.view.ty.Contents (Elt F))
    (inb : ∀ a, (![0, 0] : Fin 2 → ℕ) a + (⟨2, ![n0, n1]⟩ : Shape).size a ≤ (⟨2, ![n0, n1]⟩ : Shape).size a) :
    arg.view.readAt (Elt F) (Rect.unit (s := ⟨2, ![n0, n1]⟩) ![0, 0] (⟨2, ![n0, n1]⟩ : Shape).size inb).toLoadRect f = arg.view.read (Elt F) f := by
  rw [View.readAt_eq_ld, View.ld_unit_zero zeros2]

/-- A load of a whole three-axis buffer reads what the buffer reads. -/
theorem load_whole3 {n0 n1 n2 : ℕ} (arg : Memref sig .tc .vmem ⟨3, ![n0, n1, n2]⟩ .f32) (f : arg.view.ty.Contents (Elt F))
    (inb : ∀ a, (![0, 0, 0] : Fin 3 → ℕ) a + (⟨3, ![n0, n1, n2]⟩ : Shape).size a ≤ (⟨3, ![n0, n1, n2]⟩ : Shape).size a) :
    arg.view.readAt (Elt F) (Rect.unit (s := ⟨3, ![n0, n1, n2]⟩) ![0, 0, 0] (⟨3, ![n0, n1, n2]⟩ : Shape).size inb).toLoadRect f = arg.view.read (Elt F) f := by
  rw [View.readAt_eq_ld, View.ld_unit_zero zeros3]

set_option maxHeartbeats 1000000 in
/-- The body at a point where its branch is not taken: the inputs stay, the first output's buffer ends at
    `simBlock`, and the second output's buffer keeps what it held. -/
theorem body_keep (c : Dev nD) (i : grid0.Coords) (arg1 : Memref sig .tc .vmem S1x512x128 .f32) (h1 : arg1.IsWhole) (arg2 : Memref sig .tc .vmem S2x16x128 .f32) (h2 : arg2.IsWhole)
    (arg3 : Memref sig .tc .vmem S4096x128 .f32) (h3 : arg3.IsWhole) (arg4 : Memref sig .tc .vmem S4096x128 .f32) (h4 : arg4.IsWhole)
    (arg5 : Memref sig .tc .vmem S512x8192 .f32) (h5 : arg5.IsWhole) (arg6 : Memref sig .tc .vmem S32x4096 .f32) (h6 : arg6.IsWhole)
    (hc : ¬k0_cond1 i = 1#1) (x : Vec F S1x512x128 .f32) (y : Vec F S2x16x128 .f32) (pos neg : Vec F S4096x128 .f32) (z : Vec F S32x4096 .f32)
    (E : Set ℕ) (K : PUnit → sProp 𝕄) :
    iprop(owns (c : Thread nD τ) arg1 fullShare x ∗ owns (c : Thread nD τ) arg2 fullShare y ∗ owns (c : Thread nD τ) arg3 fullShare pos ∗ owns (c : Thread nD τ) arg4 fullShare neg
        ∗ (∃ d, owns (c : Thread nD τ) arg5 fullShare d) ∗ owns (c : Thread nD τ) arg6 fullShare z
        ∗ (iprop(owns (c : Thread nD τ) arg1 fullShare x ∗ owns (c : Thread nD τ) arg2 fullShare y ∗ owns (c : Thread nD τ) arg3 fullShare pos ∗ owns (c : Thread nD τ) arg4 fullShare neg
            ∗ owns (c : Thread nD τ) arg5 fullShare (simBlock x pos neg) ∗ owns (c : Thread nD τ) arg6 fullShare z) -∗ K ⟨⟩))
      ⊢ wp frame (wpE (defs₀ (F := F)) Variants.none c none) E (cc0__sim_kernel i arg1 h1 arg2 h2 arg3 h3 arg4 h4 arg5 h5 arg6 h6) K := by
  simp only [cc0__sim_kernel_eq_skeleton]; unfold cc0__sim_kernel_skel
  unfold owns
  iintro ⟨⟨%f1, %e1, H1⟩, ⟨%f2, %e2, H2⟩, ⟨%f3, %e3, H3⟩, ⟨%f4, %e4, H4⟩, ⟨%d5, %f5, -, H5⟩, H6, Hk⟩
  sl_exec (disch := sl_exact hc)
  sl_step
  iapply Hk
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro
    rw [load_whole3, load_whole2, load_whole2, e1, e3, e4]
    exact View.read_writes_eq_canon _ _ _ (simPieces_cover x pos neg)
  iexact H6

set_option maxHeartbeats 1000000 in
/-- The body at the point where its branch is taken: as before, and the second output's buffer ends at the product of
    the last rows with the positive memory, whatever it held. -/
theorem body_store (c : Dev nD) (i : grid0.Coords) (arg1 : Memref sig .tc .vmem S1x512x128 .f32) (h1 : arg1.IsWhole) (arg2 : Memref sig .tc .vmem S2x16x128 .f32) (h2 : arg2.IsWhole)
    (arg3 : Memref sig .tc .vmem S4096x128 .f32) (h3 : arg3.IsWhole) (arg4 : Memref sig .tc .vmem S4096x128 .f32) (h4 : arg4.IsWhole)
    (arg5 : Memref sig .tc .vmem S512x8192 .f32) (h5 : arg5.IsWhole) (arg6 : Memref sig .tc .vmem S32x4096 .f32) (h6 : arg6.IsWhole)
    (hc : k0_cond1 i = 1#1) (x : Vec F S1x512x128 .f32) (y : Vec F S2x16x128 .f32) (pos neg : Vec F S4096x128 .f32)
    (E : Set ℕ) (K : PUnit → sProp 𝕄) :
    iprop(owns (c : Thread nD τ) arg1 fullShare x ∗ owns (c : Thread nD τ) arg2 fullShare y ∗ owns (c : Thread nD τ) arg3 fullShare pos ∗ owns (c : Thread nD τ) arg4 fullShare neg
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare y ∗ owns (c : Thread nD τ) arg3 fullShare pos ∗ owns (c : Thread nD τ) arg4 fullShare neg
            ∗ owns (c : Thread nD τ) arg5 fullShare (simBlock x pos neg) ∗ owns (c : Thread nD τ) arg6 fullShare (k0_pay4 y pos)) -∗ K ⟨⟩))
      ⊢ wp frame (wpE (defs₀ (F := F)) Variants.none c none) E (cc0__sim_kernel i arg1 h1 arg2 h2 arg3 h3 arg4 h4 arg5 h5 arg6 h6) K := by
  simp only [cc0__sim_kernel_eq_skeleton]; unfold cc0__sim_kernel_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  sl_step
  iapply Hk
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro
    rw [load_whole3, load_whole2, load_whole2, e1, e3, e4]
    exact View.read_writes_eq_canon _ _ _ (simPieces_cover x pos neg)
  iexists _; isplitr
  swap; · iexact H6
  ipureintro
  rw [load_whole3, load_whole2, e2, e3]
  exact (View.read_writes_eq_canon _ _ _ (tailPiece_cover _)).trans (View.canon_unit_zero zeros2 inb_S32x4096_S32x4096_0_0 _)

end Cert.Sim

end
-- ==== Proof.SimFrame.lean ====
/- The kernel's run on the ideal values, with the contents of both outputs stated point by point: what the body leaves
   in each staging buffer, the body's obligation at every point, the run of @main, and that the arguments end unchanged. -/
module

public import proofs.«01_k».proof.Proof.BodyRun
public import Idealize.ShloMosaic.Lib.Pipeline.TableIdle
public import Idealize.ShloMosaic.Lib.Claim

@[expose] public section

set_option maxRecDepth 16384

noncomputable section

namespace Cert.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, and where the second output is idle -/

/-- The body's branch is taken at the first point only. -/
theorem branch_iff (t : Fin cfg0.N) : k0_cond1 (grid0.coords t) = 1#1 ↔ t.val = 0 := by
  have ht : t.val < 16 := Nat.lt_of_lt_of_eq t.isLt N_0
  have e0 : (grid0.coords t 0).val = t.val / 1 % 16 := Pipeline.Grid.coords_val t 0 (by decide) rfl
  simp only [k0_cond1, e0]
  word_cmp

/-- The second output is idle exactly where the branch is not taken. -/
theorem idle5_iff (t : Fin cfg0.N) : cfg0.idle 5 (grid0.coords t) = true ↔ t.val ≠ 0 := by
  rw [Ne, ← branch_iff t]
  show (!(k0_cond1 (grid0.coords t) == 1#1)) = true ↔ _
  simp

/-- The positions at which nothing stored is pending in the second output's buffer: before the first point, and after
    the last one. -/
def freshAt (n : ℕ) : Bool := decide (n = 0 ∨ n = 16)

/-- `freshAt` follows the configuration's own step: written back here, or idle here and fresh before. -/
theorem freshAt_step (t : Fin cfg0.N) :
    freshAt (t.val + 1) = ((cfg0.win 5).flush t || (cfg0.idle 5 (cfg0.grid.coords t) && freshAt t.val)) := by
  have ht : t.val < 16 := Nat.lt_of_lt_of_eq t.isLt N_0
  rw [Bool.eq_iff_iff, Bool.or_eq_true, Bool.and_eq_true, flush0_5 t, idle5_iff t]
  simp only [freshAt, decide_eq_true_eq]
  omega

/-- After the first point the second output's buffer holds something stored. -/
theorem not_fresh5 (t : Fin cfg0.N) (h : t.val ≠ 0) : cfg0.fresh 5 t.val = false := by
  have ht : t.val < 16 := Nat.lt_of_lt_of_eq t.isLt N_0
  rw [Pipeline.Cfg.fresh_tab cfg0 5 freshAt rfl freshAt_step t.val (Nat.le_of_lt t.isLt)]
  simp only [freshAt, decide_eq_false_iff_not]
  omega

/-! ## The proof data -/

/-- The first output's block after point `t`. -/
def simAt (c : Dev nD) (t : Fin cfg0.N) : Vec F S512x8192 .f32 := simBlock (X0_0 m c t) (iblk m c 2 t) (iblk m c 3 t)

/-- The second output's block after every point: what the first point stores. -/
def tailAt (c : Dev nD) : Vec F S32x4096 .f32 := k0_pay4 (iblk m c 1 t0_0) (iblk m c 2 t0_0)

/-- The pipeline's proof data: each input's buffer at its block, the outputs' at `simAt` and `tailAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => simAt m c t
    | ⟨5, _⟩ => tailAt m c
  Φ _ := Pipeline.ΦA spec0 c
  q w := Pipeline.shareOf spec0 w
  owed _ := 0

/-- The arrays are the launch contents. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = simAt m c t := by dsimp only [dats]
theorem after_5 (c : Dev nD) (t : Fin cfg0.N) : (dats m 0 c).after 5 t = tailAt m c := by dsimp only [dats]

/-- After the first point the second output's buffer is found as the first point left it. -/
theorem before_5 (c : Dev nD) (t : Fin cfg0.N) (h : t.val ≠ 0) (d) : (dats m 0 c).before 5 t d = tailAt m c := by
  rw [Dat.before_out_traj _ 5 rfl (fun _ _ => rfl) (fun _ _ _ _ => by rw [after_5, after_5]) t.val t rfl d,
    if_neg (by rw [not_fresh5 t h]; exact Bool.false_ne_true), after_5]

/-! ## The body's obligation -/

/-- A window that is never idle is left at the proof data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- After the first point the second output's buffer, held at the first point's product, is all that is asked of it,
    whether or not the point writes it back. -/
theorem leaves_idle5 (c : Dev nD) (t : Fin cfg0.N) (h : t.val ≠ 0) :
    (owns (c : Thread nD τ) ((cfg0.win 5).stage (cfg0.slots t 5)) fullShare (tailAt m c) : sProp 𝕄) ⊢ (dats m 0 c).leavesExact 5 t := by
  unfold Dat.leavesExact
  rw [(idle5_iff t).mpr h]
  cases hf : (cfg0.win 5).flush t with
  | false =>
    simp only [before_5 m c t h]
    iintro H; iexists (tailAt m c); iexact H
  | true => rw [after_5]

/-- The inputs' buffers as the body finds them, with the outputs' at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The six buffers as the body leaves them. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 800000 in
/-- The body at any point, by whether the point is the first. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (dats_A m c 0) (after_0 m c), before0_1_of m (dats m 0 c) (dats_A m c 1) (after_1 m c),
    before0_2_of m (dats m 0 c) (dats_A m c 2) (after_2 m c), before0_3_of m (dats m 0 c) (dats_A m c 3) (after_3 m c)]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl,
    after_0, after_1, after_2, after_3, after_4]
  by_cases h : t.val = 0
  · rw [leaves_live m c 5 t (by rw [← Bool.not_eq_true, idle5_iff]; simpa using h), after_5]
    obtain rfl : t = t0_0 := Fin.ext h
    unfold simAt tailAt
    iintro ⟨HΦ, Ho, ⟨%d0, H0⟩, ⟨%d1, H1⟩, ⟨%d2, H2⟩, ⟨%d3, H3⟩, ⟨%d4, H4⟩, ⟨%d5, H5⟩⟩
    iapply (body_store c (grid0.coords t0_0) _ _ _ _ _ _ _ _ _ _ _ _ ((branch_iff t0_0).mpr h) (X0_0 m c t0_0) (iblk m c 1 t0_0) (iblk m c 2 t0_0) (iblk m c 3 t0_0) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h]
    unfold simAt
    iintro ⟨HΦ, Ho, ⟨%d0, H0⟩, ⟨%d1, H1⟩, ⟨%d2, H2⟩, ⟨%d3, H3⟩, ⟨%d4, H4⟩, ⟨%d5, H5⟩⟩
    iapply (body_keep c (grid0.coords t) _ _ _ _ _ _ _ _ _ _ _ _ (fun e => h ((branch_iff t).mp e)) (X0_0 m c t) (iblk m c 1 t) (iblk m c 2 t) (iblk m c 3 t) (tailAt m c) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (leaves_idle5 m c t h); iexact H5

/-- The pipeline's body obligation. -/
theorem body_holds (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_sound m c t) rfl .rfl fun _ => .rfl

/-! ## The run -/

set_option backward.isDefEq.respectTransparency.types false in
set_option maxHeartbeats 800000 in
/-- @main runs to the end from any memory with its counters at zero; then every array of the pipeline holds what the
    proof data compute, every other buffer what the trailing reshape leaves there, and every counter is back at zero. -/
theorem sim_run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_holds m c).loose) (hq := fun _ _ _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The run's first half alone. -/
theorem sim_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (sim_run m ρ)

/-- The five arguments end unchanged and every counter ends at zero. -/
theorem sim_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (sim_post m ρ)) ((θ_run defs _ _).mono (fun _ h => h.2) (sim_run m ρ))

end Cert.Sim

end
-- ==== Proof.WordFrame.lean ====
/- The kernel's frame on its own words. The ideal program is the same text, so the frame proved of it for any values carries over. -/
module

public import proofs.«01_k».proof.Defs
public import proofs.«01_k».proof.Proof.SimFrame
public import proofs.«01_k».proof.Proof.Gen.Kernel

@[expose] public section

noncomputable section

namespace Cert.Sim

open Idealize.ShloMosaic Idealize.SL.Sem
open Cert.Kernel.Gen Cert.KernelIdeal.Gen

variable {F : FTy → Type} [FloatOps F]

/-- The two programs' bodies are one function, at any values. -/
theorem body_same : @Cert.Kernel.cc0__sim_kernel F _ Cert.Kernel.Gen.facts = @Cert.KernelIdeal.cc0__sim_kernel F _ Cert.KernelIdeal.Gen.facts := rfl

/-- So are their tables of bodies, label by label. -/
theorem bodies_same : @Cert.Kernel.defs₀ F _ Cert.Kernel.Gen.facts = @Cert.KernelIdeal.defs₀ F _ Cert.KernelIdeal.Gen.facts := by
  refine congrArg Defs.onTc (funext fun l => funext fun a => ?_)
  match l, a with
  | ⟨0, _⟩, (_, _) => rfl

/-- And so are the tables with the pipeline's own labels. -/
theorem tables_same : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_same

/-- The kernel ends without fault, its arguments unchanged and every counter at zero. -/
theorem word_frame : Cert.quiescent_Kernel (hKernel := Cert.Kernel.Gen.facts) := fun m ρ _ => by
  rw [tables_same]
  exact sim_frame (F := Bits) m ρ

end Cert.Sim

end
-- ==== Proof.BlockValue.lean ====
/- What one block of each output computes on the ideal values: every entry is one row's inner product with one row of
   the memory. -/
module

public import proofs.«01_k».proof.Proof.BodyRun
public import Idealize.ShloMosaic.Lib.MatmulPlain
public import Idealize.ShloMosaic.Lib.ValueIdx
public import Idealize.ShloMosaic.Lib.ValueLayout
public import Idealize.ShloMosaic.PureOps.Ideal.Laws

@[expose] public section

noncomputable section

namespace Cert.Sim

open Cert.KernelIdeal Cert.KernelIdeal.Gen
open Idealize.ShloMosaic Idealize.ShloMosaic.ValueIdx

/-- Row `k` of the two memories stacked, at column `l`: the positive memory's rows first, then the negative's. -/
def memoryRow (pos neg : Vec Ideal S4096x128 .f32) (k : Fin 8192) (l : Fin 128) : Elt Ideal .f32 :=
  if h : k.val < 4096 then pos (ix2 ⟨k.val, h⟩ l) else neg (ix2 ⟨k.val - 4096, by have := k.isLt; omega⟩ l)

/-- The product stored in the left half of the columns, at an entry. -/
theorem left_apply (x : Vec Ideal S1x512x128 .f32) (w : Vec Ideal S4096x128 .f32) (r : Fin 512) (k : Fin 4096) :
    k0_pay2 (F := Ideal) x w (ix2 r k) = ∑ l : Fin 128, x (ix3 0 r l) * w (ix2 k l) := by
  refine (Ideal.matmul_transposedRhs_apply (M := 512) (K := 128) (N := 4096) none (k0_pay1 x) w (constant (F := Ideal) S512x4096 .f32 0x00000000#32) r k).trans ?_
  rw [constant_apply, Ideal.ofBits_zero_f32, zero_add]
  refine Finset.sum_congr rfl fun l _ => congrArg (· * _) ?_
  exact shapeCast_1ab_ab_apply x _ r l

/-- The right half's product is the same function of its operands. -/
theorem right_eq (x : Vec Ideal S1x512x128 .f32) (w : Vec Ideal S4096x128 .f32) : k0_pay3 (F := Ideal) x w = k0_pay2 x w := rfl

/-- The first output's block at an entry: row `r` of the rows' block against row `k` of the stacked memories. -/
theorem simBlock_apply (x : Vec Ideal S1x512x128 .f32) (pos neg : Vec Ideal S4096x128 .f32) (r : Fin 512) (k : Fin 8192) :
    simBlock (F := Ideal) x pos neg (ix2 r k) = ∑ l : Fin 128, x (ix3 0 r l) * memoryRow pos neg k l := by
  unfold simBlock simPieces
  by_cases h : k.val < 4096
  · rw [View.canon_cons_of_not_mem _ _ (by
      rw [Rect.mem_set_unit]; intro hk; have := (hk 1).1; change 4096 ≤ k.val at this; omega)]
    have e : (ix2 r k : S512x8192.Idx) = (Rect.unit (s := S512x8192) ![0, 0] S512x4096.size inb_S512x8192_S512x4096_0_0).emb (ix2 r ⟨k.val, h⟩) := by
      funext a; apply Fin.ext; rw [Rect.emb_apply]
      match a with
      | ⟨0, _⟩ => show r.val = 0 + 1 * r.val; omega
      | ⟨1, _⟩ => show k.val = 0 + 1 * k.val; omega
    rw [e, View.canon_cons_emb, left_apply]
    simp only [memoryRow, dif_pos h]
  · have hk := k.isLt
    have e : (ix2 r k : S512x8192.Idx) = (Rect.unit (s := S512x8192) ![0, 4096] S512x4096.size inb_S512x8192_S512x4096_0_4096).emb (ix2 r ⟨k.val - 4096, by omega⟩) := by
      funext a; apply Fin.ext; rw [Rect.emb_apply]
      match a with
      | ⟨0, _⟩ => show r.val = 0 + 1 * r.val; omega
      | ⟨1, _⟩ => show k.val = 4096 + 1 * (k.val - 4096); omega
    rw [e, View.canon_cons_emb, right_eq, left_apply]
    simp only [memoryRow, dif_neg h]

/-- The second output's block at an entry: row `r` of the sixteen last rows of each batch, laid end to end, against row
    `k` of the positive memory. -/
theorem tail_apply (y : Vec Ideal S2x16x128 .f32) (w : Vec Ideal S4096x128 .f32) (b : Fin 2) (q : Fin 16) (k : Fin 4096) (r : Fin 32) (hr : r.val = b.val * 16 + q.val) :
    k0_pay4 (F := Ideal) y w (ix2 r k) = ∑ l : Fin 128, y (ix3 b q l) * w (ix2 k l) := by
  refine (Ideal.matmul_transposedRhs_apply (M := 32) (K := 128) (N := 4096) none (shapeCast S32x128 y shapeCasts_S2x16x128_S32x128) w (constant (F := Ideal) S32x4096 .f32 0x00000000#32) r k).trans ?_
  rw [constant_apply, Ideal.ofBits_zero_f32, zero_add]
  refine Finset.sum_congr rfl fun l _ => congrArg (· * _) ?_
  refine shapeCast_apply y shapeCasts_S2x16x128_S32x128 (ix2 r l) (ix3 b q l) ?_
  rw [Shape.rowMajor_val_three, Shape.rowMajor_val_two]
  show (b.val * 16 + q.val) * 128 + l.val = r.val * 128 + l.val
  rw [hr]

end Cert.Sim

end
-- ==== Proof.RefValue.lean ====
/- The two results as functions of the arguments, and that the reference computes them on the ideal values. -/
module

public import proofs.«01_k».proof.Proof.BlockValue
public import proofs.«01_k».proof.Proof.Gen.ReferenceIdeal.Read
public import Idealize.ShloMosaic.Lib.Pipeline.Value

@[expose] public section

noncomputable section

namespace Cert.Sim

open Idealize.ShloMosaic Idealize.ShloMosaic.ValueIdx Idealize.ShloMosaic.TcCoe Idealize.SL.Sem
open Cert.KernelIdeal (S2x4112x128 S4096x128 S8192x8192 S2x16x4096)
open Cert.ReferenceIdeal.Read

/-- The first result: entry `(n, k)` is row `n % 4096` of batch `n / 4096` against row `k` of the stacked memories. -/
def simOf (x : Vec Ideal S2x4112x128 .f32) (pos neg : Vec Ideal S4096x128 .f32) : Vec Ideal S8192x8192 .f32 := fun i =>
  ∑ l : Fin 128, x (ix3 ⟨(i 0).val / 4096, by have := idx2_lt0 i; omega⟩ ⟨(i 0).val % 4096, by omega⟩ l) * memoryRow pos neg (i 1) l

/-- The second result: entry `(b, q, k)` is row `4096 + q` of batch `b` against row `k` of the positive memory. -/
def tailOf (x : Vec Ideal S2x4112x128 .f32) (pos : Vec Ideal S4096x128 .f32) : Vec Ideal S2x16x4096 .f32 := fun i =>
  ∑ l : Fin 128, x (ix3 (i 0) ⟨4096 + (i 1).val, by have : (i 1).val < 16 := (i 1).isLt; omega⟩ l) * pos (ix2 (i 2) l)

/-- The reference's stacked memories at an entry. -/
theorem stacked_apply (pos neg : Vec Ideal S4096x128 .f32) (k : Fin 8192) (l : Fin 128) :
    val_main_v4 (F := Ideal) pos neg (ix2 k l) = memoryRow pos neg k l := by
  unfold val_main_v4 memoryRow
  by_cases h : k.val < 4096
  · rw [dif_pos h]
    exact concatenate_pair_apply_left (0 : Fin 2) pos neg _ (ix2 k l) rfl (ix2 ⟨k.val, h⟩ l) fun a => match a with
      | ⟨0, _⟩ => rfl
      | ⟨1, _⟩ => rfl
  · rw [dif_neg h]
    refine concatenate_pair_apply_right (0 : Fin 2) pos neg _ (ix2 k l) rfl rfl (ix2 ⟨k.val - 4096, by have := k.isLt; omega⟩ l) (fun a ha => ?_) ?_
    · match a with
      | ⟨0, _⟩ => exact absurd rfl ha
      | ⟨1, _⟩ => rfl
    · show k.val - 4096 + 4096 = k.val
      omega

/-- The reference's flattened rows at an entry. -/
theorem rows_flat (x : Vec Ideal S2x4112x128 .f32) (i : S8192x8192.Idx) (l : Fin 128) :
    val_main_v5 (F := Ideal) x (lidx_main_v7 i l)
      = x (ix3 ⟨(i 0).val / 4096, by have := idx2_lt0 i; omega⟩ ⟨(i 0).val % 4096, by omega⟩ l) := by
  rw [val_main_v5_apply, val_main_v0_apply]
  have hi := idx2_lt0 i
  have hl := l.isLt
  refine congrArg x (funext fun a => Fin.ext ?_)
  match a with
  | ⟨0, _⟩ => show ((i 0).val * 128 + l.val) / 524288 = (i 0).val / 4096; omega
  | ⟨1, _⟩ => show ((i 0).val * 128 + l.val) / 128 % 4096 = (i 0).val % 4096; omega
  | ⟨2, _⟩ => show ((i 0).val * 128 + l.val) % 128 = l.val; omega

/-- The reference's first result is `simOf`. -/
theorem ref_sim (x : Vec Ideal S2x4112x128 .f32) (pos neg : Vec Ideal S4096x128 .f32) : val_main_v7 (F := Ideal) x pos neg = simOf x pos neg := by
  funext i
  rw [val_main_v7_apply]
  refine Finset.sum_congr rfl fun l _ => ?_
  rw [rows_flat, val_main_v6_apply, ← stacked_apply pos neg (i 1) l]
  refine congrArg (_ * val_main_v4 (F := Ideal) pos neg ·) (funext fun a => ?_)
  match a with
  | ⟨0, _⟩ => rfl
  | ⟨1, _⟩ => rfl

/-- The reference's second result is `tailOf`. -/
theorem ref_tail (x : Vec Ideal S2x4112x128 .f32) (pos : Vec Ideal S4096x128 .f32) : val_main_v3 (F := Ideal) x pos = tailOf x pos := by
  funext i
  rw [val_main_v3_apply]
  refine Finset.sum_congr rfl fun l _ => ?_
  rw [val_main_v1_apply, val_main_v2_apply]
  refine congrArg₂ (x · * pos ·) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl

end Cert.Sim

end
-- ==== Proof.ArrayValue.lean ====
/- What the two result arrays hold after the kernel's run on the ideal values, as functions of the launch contents:
   the blocks the points read, the blocks they write back, and the trailing reshape. -/
module

public import proofs.«01_k».proof.Proof.SimFrame
public import proofs.«01_k».proof.Proof.RefValue

@[expose] public section

set_option maxRecDepth 16384

noncomputable section

namespace Cert.Sim

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

variable (m : (ℓ : Loc nD τ sig) → Buf (Elt Ideal) ℓ) (ρ : Dev nD → PrngReg)

/-! ## The blocks the points read -/

/-- Which block of the rows point `t` reads. -/
theorem index_0 : ∀ t : Fin grid0.N, win0_0.index t 0 = t.val / 8 ∧ win0_0.index t 1 = t.val % 8 ∧ win0_0.index t 2 = 0 := by decide +kernel
/-- Every point reads the same block of the last rows. -/
theorem index_1 : ∀ t : Fin grid0.N, win0_1.index t 0 = 0 ∧ win0_1.index t 1 = 256 ∧ win0_1.index t 2 = 0 := by decide +kernel
/-- Every point reads the whole positive memory, -/
theorem index_2 : ∀ t : Fin grid0.N, ∀ a, win0_2.index t a = 0 := by decide +kernel
/-- and the whole negative memory. -/
theorem index_3 : ∀ t : Fin grid0.N, ∀ a, win0_3.index t a = 0 := by decide +kernel
/-- Point `t` writes the `t`-th band of rows. -/
theorem index_4 : ∀ t : Fin grid0.N, win0_4.index t 0 = t.val ∧ win0_4.index t 1 = 0 := by decide +kernel
/-- The second output is one block. -/
theorem index_5 : ∀ t : Fin grid0.N, ∀ a, win0_5.index t a = 0 := by decide +kernel

/-- Point `t`'s block of rows at an entry. -/
theorem rows_apply (c : Dev nD) (t : Fin cfg0.N) (r : Fin 512) (l : Fin 128) (b : Fin 2) (n : Fin 4112)
    (hb : b.val = t.val / 8) (hn : n.val = t.val % 8 * 512 + r.val) :
    X0_0 m c t (ix3 0 r l) = m ((c.tc : Thread nD τ).loc main_arg0) (ix3 b n l) := by
  unfold X0_0 Pipeline.Window.fill
  rw [dif_pos (moved0_0 t _)]
  show m ((c.tc : Thread nD τ).loc main_arg0) ((win0_0.rect t).emb _) = _
  refine congrArg _ (funext fun a => Fin.ext ?_)
  obtain ⟨i0, i1, i2⟩ := index_0 t
  refine (win0_0.rect_emb_val t _ a).trans ?_
  match a with
  | ⟨0, _⟩ => show win0_0.index t 0 * 1 + 0 = b.val; omega
  | ⟨1, _⟩ => show win0_0.index t 1 * 512 + r.val = n.val; omega
  | ⟨2, _⟩ => show win0_0.index t 2 * 128 + l.val = l.val; omega

/-- The block of the last rows at an entry. -/
theorem last_apply (c : Dev nD) (t : Fin cfg0.N) (b : Fin 2) (q : Fin 16) (l : Fin 128) (n : Fin 4112) (hn : n.val = 4096 + q.val) :
    iblk m c 1 t (ix3 b q l) = m ((c.tc : Thread nD τ).loc main_arg0) (ix3 b n l) := by
  show m ((c.tc : Thread nD τ).loc main_arg0) ((win0_1.rect t).emb _) = _
  refine congrArg _ (funext fun a => Fin.ext ?_)
  obtain ⟨i0, i1, i2⟩ := index_1 t
  refine (win0_1.rect_emb_val t _ a).trans ?_
  match a with
  | ⟨0, _⟩ => show win0_1.index t 0 * 2 + b.val = b.val; omega
  | ⟨1, _⟩ => show win0_1.index t 1 * 16 + q.val = n.val; omega
  | ⟨2, _⟩ => show win0_1.index t 2 * 128 + l.val = l.val; omega

/-- The positive memory's block is the array. -/
theorem pos_block (c : Dev nD) (t : Fin cfg0.N) : iblk m c 2 t = m ((c.tc : Thread nD τ).loc main_arg3) := by
  funext j
  show m ((c.tc : Thread nD τ).loc main_arg3) ((win0_2.rect t).emb j) = _
  exact congrArg _ (funext fun a => Fin.ext (win0_2.rect_emb_val_of_index_zero t a (index_2 t a) j))

/-- The negative memory's block is the array. -/
theorem neg_block (c : Dev nD) (t : Fin cfg0.N) : iblk m c 3 t = m ((c.tc : Thread nD τ).loc main_arg4) := by
  funext j
  show m ((c.tc : Thread nD τ).loc main_arg4) ((win0_3.rect t).emb j) = _
  exact congrArg _ (funext fun a => Fin.ext (win0_3.rect_emb_val_of_index_zero t a (index_3 t a) j))

/-! ## The first result -/

/-- The first result from the launch contents. -/
abbrev simRes (c : Dev nD) : Buf (Elt Ideal) ((c.tc : Thread nD τ).loc main_v0_0) :=
  simOf (m ((c.tc : Thread nD τ).loc main_arg0)) (m ((c.tc : Thread nD τ).loc main_arg3)) (m ((c.tc : Thread nD τ).loc main_arg4))

/-- What point `t` writes back is its band of the first result. -/
theorem sim_flushed (c : Dev nD) (t : Fin cfg0.N) :
    (dats m 0 c).flushed 4 t = ((cfg0.win 4).blk t).view.read (Elt Ideal) (simRes m c) := by
  show (cfg0.win 4).cut (grid0.coords t) ((dats m 0 c).after 4 t) = _
  rw [after_4]
  have ht : t.val < 16 := Nat.lt_of_lt_of_eq t.isLt N_0
  obtain ⟨i0, i1⟩ := index_4 t
  funext j
  have h0 : (j 0).val < 512 := (j 0).isLt
  have h1 : (j 1).val < 8192 := (j 1).isLt
  have ej : (cfg0.win 4).xinj (grid0.coords t) j = (ix2 ⟨(j 0).val, h0⟩ ⟨(j 1).val, h1⟩ : S512x8192.Idx) := by
    funext a; match a with
    | ⟨0, _⟩ => rfl
    | ⟨1, _⟩ => rfl
  show simAt m c t ((cfg0.win 4).xinj (grid0.coords t) j) = simRes m c ((win0_4.rect t).emb j)
  have e : (win0_4.rect t).emb j = (ix2 ⟨t.val * 512 + (j 0).val, by omega⟩ ⟨(j 1).val, h1⟩ : S8192x8192.Idx) := by
    funext a; apply Fin.ext
    refine (win0_4.rect_emb_val t j a).trans ?_
    match a with
    | ⟨0, _⟩ => show win0_4.index t 0 * 512 + (j 0).val = t.val * 512 + (j 0).val; omega
    | ⟨1, _⟩ => show win0_4.index t 1 * 8192 + (j 1).val = (j 1).val; omega
  rw [ej, e]
  unfold simAt
  rw [simBlock_apply, pos_block, neg_block]
  refine Finset.sum_congr rfl fun l _ => congrArg (· * _) ?_
  exact rows_apply m c t _ l _ _ (by show (t.val * 512 + (j 0).val) / 4096 = t.val / 8; omega)
    (by show (t.val * 512 + (j 0).val) % 4096 = t.val % 8 * 512 + (j 0).val; omega)

/-- Every entry of the first result lies in some point's band. -/
theorem sim_cover (i : S8192x8192.Idx) : ∃ t : Fin cfg0.N, (cfg0.win 4).flush t = true ∧ i ∈ ((cfg0.win 4).blk t).view.set := by
  have h0 := idx2_lt0 i
  have h1 := idx2_lt1 i
  have hN : cfg0.N = 16 := N_0
  let t : Fin cfg0.N := ⟨(i 0).val / 512, by omega⟩
  obtain ⟨i0, i1⟩ := index_4 t
  have i0 : win0_4.index t 0 = (i 0).val / 512 := i0
  refine ⟨t, flush0_4 t, ?_⟩
  show i ∈ ((View.whole main_v0_0).slice (win0_4.rect t)).set
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 8192 ≤ (i 1).val ∧ (i 1).val < win0_4.index t 1 * 8192 + 8192; omega

/-- So the array of the first output ends at the first result. -/
theorem sim_final (c : Dev nD) : (dats m 0 c).arrAt 4 cfg0.N = simRes m c :=
  (dats m 0 c).arrAt_eq_of_cover 4 (simRes m c) (fun t _ => sim_flushed m c t) sim_cover

/-! ## The second result -/

/-- Any write-back of the second output writes the first point's product, whole. -/
theorem tail_flushed (c : Dev nD) (t : Fin cfg0.N) :
    (dats m 0 c).flushed 5 t = ((cfg0.win 5).blk t).view.read (Elt Ideal) (tailAt m c : Buf (Elt Ideal) ((c.tc : Thread nD τ).loc main_v0_1)) := by
  show (cfg0.win 5).cut (grid0.coords t) ((dats m 0 c).after 5 t) = _
  rw [after_5]
  funext j
  show tailAt m c ((cfg0.win 5).xinj (grid0.coords t) j) = tailAt m c ((win0_5.rect t).emb j)
  exact congrArg _ (funext fun a => Fin.ext (win0_5.rect_emb_val_of_index_zero t a (index_5 t a) j).symm)

/-- The last point's block is the whole array. -/
theorem tail_cover (i : S32x4096.Idx) : ∃ t : Fin cfg0.N, (cfg0.win 5).flush t = true ∧ i ∈ ((cfg0.win 5).blk t).view.set := by
  have h0 := idx2_lt0 i
  have h1 := idx2_lt1 i
  have i0 := index_5 t0_15
  refine ⟨t0_15, (flush0_5 t0_15).mpr rfl, ?_⟩
  show i ∈ ((View.whole main_v0_1).slice (win0_5.rect t0_15)).set
  rw [View.set_slice_whole, Rect.mem_set_unit]
  intro a
  match a with
  | ⟨0, _⟩ => show win0_5.index t0_15 0 * 32 ≤ (i 0).val ∧ (i 0).val < win0_5.index t0_15 0 * 32 + 32; have := i0 0; omega
  | ⟨1, _⟩ => show win0_5.index t0_15 1 * 4096 ≤ (i 1).val ∧ (i 1).val < win0_5.index t0_15 1 * 4096 + 4096; have := i0 1; omega

/-- So the array of the second output ends at the first point's product. -/
theorem tail_final (c : Dev nD) : (dats m 0 c).arrAt 5 cfg0.N = tailAt m c :=
  (dats m 0 c).arrAt_eq_of_cover 5 (tailAt m c : Buf (Elt Ideal) ((c.tc : Thread nD τ).loc main_v0_1)) (fun t _ => tail_flushed m c t) tail_cover

/-- The second result from the launch contents. -/
abbrev tailRes (c : Dev nD) : Buf (Elt Ideal) ((c.tc : Thread nD τ).loc main_v1) :=
  tailOf (m ((c.tc : Thread nD τ).loc main_arg0)) (m ((c.tc : Thread nD τ).loc main_arg3))

/-- The first point's product, reshaped by batch, is the second result. -/
theorem tail_reshaped (c : Dev nD) : shapeCast S2x16x4096 (tailAt m c) shapeCasts_S32x4096_S2x16x4096 = tailRes m c := by
  funext i
  have h0 : (i 0).val < 2 := (i 0).isLt
  have h1 : (i 1).val < 16 := (i 1).isLt
  have h2 : (i 2).val < 4096 := (i 2).isLt
  refine (shapeCast_apply (tailAt m c) shapeCasts_S32x4096_S2x16x4096 i (ix2 ⟨(i 0).val * 16 + (i 1).val, by omega⟩ (i 2)) ?_).trans ?_
  · rw [Shape.rowMajor_val_three, Shape.rowMajor_val_two]; rfl
  unfold tailAt
  refine (tail_apply _ _ (i 0) (i 1) (i 2) _ rfl).trans (Finset.sum_congr rfl fun l _ => ?_)
  rw [pos_block, last_apply m c t0_0 (i 0) (i 1) l ⟨4096 + (i 1).val, by omega⟩ rfl]

/-- After the trailing reshape its buffer holds the second result. -/
theorem tail_after (c : Dev nD) : Pipeline.afterTail₀ cfgs (dats m) 0 (V0 m) [hostOps1] c main_v1 = tailRes m c := by
  have e : Pipeline.withArrays spec0 c (V0 m c) (fun w => (dats m 0 c).arrAt w cfg0.N) (Proc.devRef .tc main_v0_1) = tailAt m c :=
    (Pipeline.withArrays_arr_shared spec0 c (V0 m c) (fun w => (dats m 0 c).arrAt w cfg0.N)
      (fun w w' hne he => by
        have hin : (cfg0.win w).isOut = false := by revert w w'; decide
        exact ((dats m 0 c).arrAt_in w hin _).trans (dats_A m c w)) 5).trans (tail_final m c)
  unfold Pipeline.afterTail₀
  rw [← tail_reshaped m c, ← e]
  rfl

/-! ## The run, read -/

/-- @main on the ideal values ends with both results at these functions of the arguments, and the arguments unchanged. -/
theorem kernel_run : θ_run defs (onTc (τ := τ) (main (F := Ideal))) ⟨m, fun _ => 0, ρ⟩ (fun r => ∀ c : Dev nD,
      r.2.mem ((c.tc : Thread nD τ).loc main_v0_0) = simRes m c
      ∧ r.2.mem ((c.tc : Thread nD τ).loc main_v1) = tailRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (sim_final m c),
      ((h.1 c).2 main_v1 (Pipeline.mem_restRefs_of main_v1 (by decide) (by decide))).trans (tail_after m c), h.2 c⟩)
    (θ_run_and (sim_post m ρ) (frame_of m ρ (dats m) (dats_A m) (sim_post m ρ)))

end Cert.Sim

end
-- ==== Proof.Equation.lean ====
/- The reference's run read at the two functions of the arguments, and the equation between the kernel and the reference. -/
module

public import proofs.«01_k».proof.Defs
public import proofs.«01_k».proof.Proof.ArrayValue
public import proofs.«01_k».proof.Proof.Gen.ReferenceIdeal.Run
public import Idealize.ShloMosaic.Lib.Quiescent

@[expose] public section

noncomputable section

namespace Cert.Sim

open Idealize.ShloMosaic Idealize.ShloMosaic.TcCoe Idealize.SL.Sem
open Cert.ReferenceIdeal (nD τ sig main_arg0 main_arg3 main_arg4)

/-- The reference ends with its arguments unchanged and every counter at zero: it declares no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

variable (m : (ℓ : Loc nD τ sig) → Buf (Elt Ideal) ℓ) (c : Dev nD)

/-- The reference's first result as its run states it, at the kernel's function of the arguments. -/
theorem ref_first {r : Vec Ideal Cert.KernelIdeal.S8192x8192 .f32}
    (h : r = Cert.ReferenceIdeal.Read.val_main_v7 (F := Ideal) (m ((c.tc : Thread nD τ).loc main_arg0)) (m ((c.tc : Thread nD τ).loc main_arg3)) (m ((c.tc : Thread nD τ).loc main_arg4)))
    {x : Vec Ideal Cert.KernelIdeal.S2x4112x128 .f32} {pos neg : Vec Ideal Cert.KernelIdeal.S4096x128 .f32}
    (hx : m ((c.tc : Thread nD τ).loc main_arg0) = x) (hp : m ((c.tc : Thread nD τ).loc main_arg3) = pos)
    (hn : m ((c.tc : Thread nD τ).loc main_arg4) = neg) : r = simOf x pos neg := by
  subst hx hp hn
  exact h.trans (ref_sim _ _ _)

/-- The reference's second result likewise. -/
theorem ref_second {r : Vec Ideal Cert.KernelIdeal.S2x16x4096 .f32}
    (h : r = Cert.ReferenceIdeal.Read.val_main_v3 (F := Ideal) (m ((c.tc : Thread nD τ).loc main_arg0)) (m ((c.tc : Thread nD τ).loc main_arg3)))
    {x : Vec Ideal Cert.KernelIdeal.S2x4112x128 .f32} {pos : Vec Ideal Cert.KernelIdeal.S4096x128 .f32}
    (hx : m ((c.tc : Thread nD τ).loc main_arg0) = x) (hp : m ((c.tc : Thread nD τ).loc main_arg3) = pos) : r = tailOf x pos := by
  subst hx hp
  exact h.trans (ref_tail _ _)

/-- From equal arguments the kernel and the reference end with equal results, both of them, and unchanged arguments. -/
theorem equation : Cert.algebraic_KernelIdeal_ReferenceIdeal (hKernelIdeal := Cert.KernelIdeal.Gen.facts)
    (hReferenceIdeal := Cert.ReferenceIdeal.Gen.facts) := fun m g m' g' _ same =>
  ⟨fun c => simRes m c, fun c => tailRes m c, kernel_run m g,
    (θ_run Cert.ReferenceIdeal.defs _ _).mono (fun r h c =>
      ⟨ref_first m' c ((h c).1.trans (Cert.ReferenceIdeal.Read.val_main_v7_eq _ _ _)) (same c).1 (same c).2.2.2.1 (same c).2.2.2.2,
        ref_second m' c ((h c).2.1.trans (Cert.ReferenceIdeal.Read.val_main_v3_eq _ _)) (same c).1 (same c).2.2.2.1, (h c).2.2⟩)
      (Cert.ReferenceIdeal.Value.run (F := Ideal) m' g')⟩

end Cert.Sim

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.SimFrame
public import proofs.«01_k».proof.Proof.WordFrame
public import proofs.«01_k».proof.Proof.ArrayValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the three frames, the sanctioned idealization (which rewrites nothing), and the equation of the results. -/
theorem claim : Cert.Claim := ⟨Cert.Kernel.Gen.facts, Cert.KernelIdeal.Gen.facts, Cert.ReferenceIdeal.Gen.facts,
  Cert.Sim.word_frame, fun m ρ _ => Cert.Sim.sim_frame m ρ, Cert.Sim.ref_frame, trivial, Cert.Sim.equation⟩

end Cert.Proof

end
